-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x7168 : Shape := ⟨3, ![256, 1, 7168]⟩
abbrev S3584x3584 : Shape := ⟨2, ![3584, 3584]⟩
abbrev S28x3584 : Shape := ⟨2, ![28, 3584]⟩
abbrev S224x3584 : Shape := ⟨2, ![224, 3584]⟩
abbrev S256x7168 : Shape := ⟨2, ![256, 7168]⟩
abbrev S256x3584 : Shape := ⟨2, ![256, 3584]⟩
abbrev S3584x512 : Shape := ⟨2, ![3584, 512]⟩
abbrev S28x512 : Shape := ⟨2, ![28, 512]⟩
abbrev S224x512 : Shape := ⟨2, ![224, 512]⟩
abbrev S256x512 : Shape := ⟨2, ![256, 512]⟩
abbrev S8x512 : Shape := ⟨2, ![8, 512]⟩
abbrev S1x512 : Shape := ⟨2, ![1, 512]⟩
abbrev S32x512 : Shape := ⟨2, ![32, 512]⟩
abbrev S256x256 : Shape := ⟨2, ![256, 256]⟩

abbrev nBuf : Space → Nat
  | .hbm => 8
  | .vmem => 14
  | .smem => 0
  | _ => 0

abbrev bufTy : (tb : Table) → Fin (tcTables nBuf tb) → BufTy
  | .hbm, ⟨0, _⟩ => ⟨S256x1x7168, .bf16⟩
  | .hbm, ⟨1, _⟩ => ⟨S3584x3584, .i8⟩
  | .hbm, ⟨2, _⟩ => ⟨S28x3584, .f16⟩
  | .hbm, ⟨3, _⟩ => ⟨S28x3584, .f16⟩
  | .hbm, ⟨4, _⟩ => ⟨S224x3584, .i8⟩
  | .hbm, ⟨5, _⟩ => ⟨S224x3584, .i8⟩
  | .hbm, ⟨6, _⟩ => ⟨S256x7168, .bf16⟩
  | .hbm, ⟨7, _⟩ => ⟨S256x3584, .bf16⟩
  | .local _ .vmem, ⟨0, _⟩ => ⟨S256x7168, .bf16⟩
  | .local _ .vmem, ⟨1, _⟩ => ⟨S3584x512, .i8⟩
  | .local _ .vmem, ⟨2, _⟩ => ⟨S3584x512, .i8⟩
  | .local _ .vmem, ⟨3, _⟩ => ⟨S28x512, .f16⟩
  | .local _ .vmem, ⟨4, _⟩ => ⟨S28x512, .f16⟩
  | .local _ .vmem, ⟨5, _⟩ => ⟨S28x512, .f16⟩
  | .local _ .vmem, ⟨6, _⟩ => ⟨S28x512, .f16⟩
  | .local _ .vmem, ⟨7, _⟩ => ⟨S224x512, .i8⟩
  | .local _ .vmem, ⟨8, _⟩ => ⟨S224x512, .i8⟩
  | .local _ .vmem, ⟨9, _⟩ => ⟨S224x512, .i8⟩
  | .local _ .vmem, ⟨10, _⟩ => ⟨S224x512, .i8⟩
  | .local _ .vmem, ⟨11, _⟩ => ⟨S256x512, .bf16⟩
  | .local _ .vmem, ⟨12, _⟩ => ⟨S256x512, .bf16⟩
  | .local _ .vmem, ⟨13, _⟩ => ⟨S256x512, .f32⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x512 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S28x512 .f16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S256x1x7168 : Shape := ⟨3, ![256, 1, 7168]⟩
abbrev S3584x3584 : Shape := ⟨2, ![3584, 3584]⟩
abbrev S28x3584 : Shape := ⟨2, ![28, 3584]⟩
abbrev S224x3584 : Shape := ⟨2, ![224, 3584]⟩
abbrev S256x7168 : Shape := ⟨2, ![256, 7168]⟩
abbrev S256x3584 : Shape := ⟨2, ![256, 3584]⟩
abbrev S112x32x3584 : Shape := ⟨3, ![112, 32, 3584]⟩
abbrev S112x1x32x3584 : Shape := ⟨4, ![112, 1, 32, 3584]⟩
abbrev S112x2x32x3584 : Shape := ⟨4, ![112, 2, 32, 3584]⟩
abbrev S28x1x3584 : Shape := ⟨3, ![28, 1, 3584]⟩
abbrev S28x8x3584 : Shape := ⟨3, ![28, 8, 3584]⟩
abbrev S112x2x1x3584 : Shape := ⟨4, ![112, 2, 1, 3584]⟩
abbrev S7168x3584 : Shape := ⟨2, ![7168, 3584]⟩

abbrev nBuf : Space → Nat
  | .hbm => 8
  | .vmem => 7
  | .smem => 0
  | _ => 0

abbrev bufTy : (tb : Table) → Fin (tcTables nBuf tb) → BufTy
  | .hbm, ⟨0, _⟩ => ⟨S256x1x7168, .bf16⟩
  | .hbm, ⟨1, _⟩ => ⟨S3584x3584, .i8⟩
  | .hbm, ⟨2, _⟩ => ⟨S28x3584, .f16⟩
  | .hbm, ⟨3, _⟩ => ⟨S28x3584, .f16⟩
  | .hbm, ⟨4, _⟩ => ⟨S224x3584, .i8⟩
  | .hbm, ⟨5, _⟩ => ⟨S224x3584, .i8⟩
  | .hbm, ⟨6, _⟩ => ⟨S256x7168, .bf16⟩
  | .hbm, ⟨7, _⟩ => ⟨S256x3584, .bf16⟩
  | .local _ .vmem, ⟨0, _⟩ => ⟨S256x7168, .bf16⟩
  | .local _ .vmem, ⟨1, _⟩ => ⟨S3584x3584, .i8⟩
  | .local _ .vmem, ⟨2, _⟩ => ⟨S28x3584, .f16⟩
  | .local _ .vmem, ⟨3, _⟩ => ⟨S28x3584, .f16⟩
  | .local _ .vmem, ⟨4, _⟩ => ⟨S224x3584, .i8⟩
  | .local _ .vmem, ⟨5, _⟩ => ⟨S224x3584, .i8⟩
  | .local _ .vmem, ⟨6, _⟩ => ⟨S256x3584, .bf16⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x3584 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28x3584 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x3584 .f16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S224x3584 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S224x3584 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Block.lean ====
/- What one grid point of the kernel computes, written once per superblock instead of once per printed operation:
   `superblock` is the product of one 256-column piece of `x` with one dequantized 256 x 512 tile, as a function of the
   nine vectors it loads; `part` is that product at superblock `k` of a point's input blocks; `acc` adds the products up
   in the kernel's order. -/
module

public import proofs.«01_k».proof.Proof.Gen.KernelIdeal.Skeleton
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-- The eight rows of scales (or of offsets) of a superblock: a half-precision factor per column times an integer per
    sub-block and column, rounded to bf16. -/
def factors (n : Vec F S8x512 .i8) (d : Vec F S1x512 .f16) : FVec F S8x512 .bf16 :=
  truncf .bf16 (mulf (broadcastTo S8x512 (extf .f32 d bitsLt_f16_f32) broadcasts_S1x512_S8x512)
    (sitofp .f32 (extui 32 n natLt_8_32))) bitsLt_bf16_f32

/-- The low four bits of each byte, as a float. -/
def low (q : Vec F S32x512 .i8) : FVec F S32x512 .bf16 :=
  uitofp .bf16 (andi q (broadcast S32x512 15#8))

/-- The high four bits of each byte, as a float. -/
def high (q : Vec F S32x512 .i8) : FVec F S32x512 .bf16 :=
  uitofp .bf16 (trunci 8 (shrsi (extui 32 q natLt_8_32) (broadcast S32x512 4#32)) natLt_8_32)

/-- Thirty-two rows of codes, scaled and shifted by one row of scales and one row of offsets. -/
def affine (q : FVec F S32x512 .bf16) (s o : FVec F S1x512 .bf16) : FVec F S32x512 .bf16 :=
  subf (mulf q (broadcastTo S32x512 s broadcasts_S1x512_S32x512)) (broadcastTo S32x512 o broadcasts_S1x512_S32x512)

/-- The dequantized 256 x 512 tile of one superblock: eight sub-blocks of 32 rows, two out of each group of 32 rows of
    bytes, the low halves before the high halves. -/
def tile (s o : FVec F S8x512 .bf16) (q0 q1 q2 q3 : Vec F S32x512 .i8) : FVec F S256x512 .bf16 :=
  concatenate S256x512 0 [
    ⟨S32x512, affine (low q0) (extractStridedSlice S1x512 ![0, 0] s slices_S8x512_o0_0_S1x512) (extractStridedSlice S1x512 ![0, 0] o slices_S8x512_o0_0_S1x512)⟩,
    ⟨S32x512, affine (high q0) (extractStridedSlice S1x512 ![1, 0] s slices_S8x512_o1_0_S1x512) (extractStridedSlice S1x512 ![1, 0] o slices_S8x512_o1_0_S1x512)⟩,
    ⟨S32x512, affine (low q1) (extractStridedSlice S1x512 ![2, 0] s slices_S8x512_o2_0_S1x512) (extractStridedSlice S1x512 ![2, 0] o slices_S8x512_o2_0_S1x512)⟩,
    ⟨S32x512, affine (high q1) (extractStridedSlice S1x512 ![3, 0] s slices_S8x512_o3_0_S1x512) (extractStridedSlice S1x512 ![3, 0] o slices_S8x512_o3_0_S1x512)⟩,
    ⟨S32x512, affine (low q2) (extractStridedSlice S1x512 ![4, 0] s slices_S8x512_o4_0_S1x512) (extractStridedSlice S1x512 ![4, 0] o slices_S8x512_o4_0_S1x512)⟩,
    ⟨S32x512, affine (high q2) (extractStridedSlice S1x512 ![5, 0] s slices_S8x512_o5_0_S1x512) (extractStridedSlice S1x512 ![5, 0] o slices_S8x512_o5_0_S1x512)⟩,
    ⟨S32x512, affine (low q3) (extractStridedSlice S1x512 ![6, 0] s slices_S8x512_o6_0_S1x512) (extractStridedSlice S1x512 ![6, 0] o slices_S8x512_o6_0_S1x512)⟩,
    ⟨S32x512, affine (high q3) (extractStridedSlice S1x512 ![7, 0] s slices_S8x512_o7_0_S1x512) (extractStridedSlice S1x512 ![7, 0] o slices_S8x512_o7_0_S1x512)⟩]
    concatenates_S32x512_S32x512_S32x512_S32x512_S32x512_S32x512_S32x512_S32x512_S256x512_d0

/-- One superblock's product. -/
def superblock (sc mn : Vec F S8x512 .i8) (d dmin : Vec F S1x512 .f16) (q0 q1 q2 q3 : Vec F S32x512 .i8)
    (x : Vec F S256x256 .bf16) : FVec F S256x512 .f32 :=
  matmul dot_S256x256_S256x512_S256x512_1_0_0_1_n_n none (shapeCast S256x256 x shapeCasts_S256x256_S256x256)
    (tile (factors sc d) (factors mn dmin) q0 q1 q2 q3) (constant S256x512 .f32 0x00000000#32)

/-- Rows `n, n + 1, …` of a rank-two array, as the kernel loads them. -/
abbrev rows {e : EltTy} {h w : ℕ} (b : ℕ) (X : Vec F ⟨2, ![h, w]⟩ e) (n : ℕ) (hn : n + b ≤ h) : Vec F ⟨2, ![b, w]⟩ e :=
  View.ld X (Rect.unit (s := ⟨2, ![h, w]⟩) ![n, 0] (⟨2, ![b, w]⟩ : Shape).size
    (Fin.forall_fin_two.mpr ⟨hn, Nat.le_of_eq (Nat.zero_add w)⟩))

/-- Columns `n, n + 1, …` of a rank-two array, as the kernel loads them. -/
abbrev cols {e : EltTy} {h w : ℕ} (b : ℕ) (X : Vec F ⟨2, ![h, w]⟩ e) (n : ℕ) (hn : n + b ≤ w) : Vec F ⟨2, ![h, b]⟩ e :=
  View.ld X (Rect.unit (s := ⟨2, ![h, w]⟩) ![0, n] (⟨2, ![h, b]⟩ : Shape).size
    (Fin.forall_fin_two.mpr ⟨Nat.le_of_eq (Nat.zero_add h), hn⟩))

variable (x0 : Vec F S256x7168 .bf16) (x1 : Vec F S3584x512 .i8) (x2 x3 : Vec F S28x512 .f16) (x4 x5 : Vec F S224x512 .i8)

/-- Superblock `k`'s product, of a point's input blocks. -/
def part (k : ℕ) (hk : k < 28) : FVec F S256x512 .f32 :=
  superblock (rows 8 x4 (8 * k) (by omega)) (rows 8 x5 (8 * k) (by omega)) (rows 1 x2 k (by omega)) (rows 1 x3 k (by omega))
    (rows 32 x1 (128 * k) (by omega)) (rows 32 x1 (128 * k + 32) (by omega)) (rows 32 x1 (128 * k + 64) (by omega))
    (rows 32 x1 (128 * k + 96) (by omega)) (cols 256 x0 (256 * k) (by omega))

/-- The accumulator after superblocks `0, …, k`. -/
def acc : (k : ℕ) → k < 28 → FVec F S256x512 .f32
  | 0, h => shapeCast S256x512 (part x0 x1 x2 x3 x4 x5 0 h) shapeCasts_S256x512_S256x512
  | k + 1, h => shapeCast S256x512 (addf (acc k (Nat.lt_of_succ_lt h)) (part x0 x1 x2 x3 x4 x5 (k + 1) h))
      shapeCasts_S256x512_S256x512

end Cert.KernelIdeal.Block

end
-- ==== Proof.Opened.lean ====
/- What one grid point of the kernel leaves in its result block is the accumulator after the last superblock, rounded. -/
module

public import proofs.«01_k».proof.Proof.Gen.KernelIdeal.Frame
public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The result block of grid point `t`. -/
theorem outsAt0_eq (c : Dev nD) (t : Fin cfg0.N) :
    outsAt0 m c t = truncf .bf16 (acc (iblk m c 0 t) (iblk m c 1 t) (iblk m c 2 t) (iblk m c 3 t) (iblk m c 4 t)
      (iblk m c 5 t) 27 (by decide)) bitsLt_bf16_f32 := by
  unfold outsAt0
  frame_out
  rfl

end Cert.KernelIdeal.Block

end
-- ==== Proof.Weight.lean ====
/- The dequantized weight, as a function of the five arrays that hold it, and the result of the layer over the extended
   reals. Both programs are read as this one function. -/
module

public import Idealize.ShloMosaic.Lib.Pipeline.ValueKit
public import Idealize.ShloMosaic.Lib.Pointwise

@[expose] public section

set_option maxRecDepth 16384

noncomputable section

namespace Cert.Layer

open Idealize.ShloMosaic Idealize.SL.Sem

/-- A natural number as an extended real. -/
abbrev real (n : ℕ) : EReal := ((n : ℝ) : EReal)

/-- The four-bit code of weight row `K` in its byte: within a group of 64 rows the first 32 sit in the low halves. -/
def code (b : BitVec 8) (K : ℕ) : EReal :=
  if K % 64 < 32 then real (b.toNat % 16) else real (b.toNat / 16)

/-- A product of extended reals. -/
def times (a b : EReal) : EReal := a * b

/-- A code times its scale, less its offset. -/
def value (q s o : EReal) : EReal := q * s - o

/-- The dequantized weight at row `K` and column `c`: the code times the sub-block's scale, less the sub-block's offset. -/
def weight {w : ℕ} (qs : Vec Ideal ⟨2, ![3584, w]⟩ .i8) (d dmin : Vec Ideal ⟨2, ![28, w]⟩ .f16)
    (sc mn : Vec Ideal ⟨2, ![224, w]⟩ .i8) (K : Fin 7168) (c : Fin w) : EReal :=
  value (code (qs (ix2 ⟨32 * (K.val / 64) + K.val % 32, by omega⟩ c)) K.val)
    (times (d (ix2 ⟨K.val / 256, by omega⟩ c)) (real (BitVec.toNat (sc (ix2 ⟨K.val / 32, by omega⟩ c)))))
    (times (dmin (ix2 ⟨K.val / 256, by omega⟩ c)) (real (BitVec.toNat (mn (ix2 ⟨K.val / 32, by omega⟩ c)))))

/-- The layer over the extended reals: the rows of `x` against the columns of the dequantized weight. -/
def layer (x : Vec Ideal ⟨2, ![256, 7168]⟩ .bf16) (qs : Vec Ideal ⟨2, ![3584, 3584]⟩ .i8)
    (d dmin : Vec Ideal ⟨2, ![28, 3584]⟩ .f16) (sc mn : Vec Ideal ⟨2, ![224, 3584]⟩ .i8) (r : Fin 256) (c : Fin 3584) :
    EReal :=
  ∑ K : Fin 7168, times (x (ix2 r K)) (weight qs d dmin sc mn K c)

/-- The low half of a byte, read off by a mask. -/
theorem toNat_low (b : BitVec 8) : (IntOp.andi b 15#8).toNat = b.toNat % 16 := by
  revert b; decide +kernel

/-- The low half of a byte, read off by a mask after widening to 32 bits. -/
theorem toInt_low (b : BitVec 8) : (IntOp.andi (b.setWidth 32) 15#32).toInt = ((b.toNat % 16 : ℕ) : ℤ) := by
  revert b; decide +kernel

/-- The high half of a byte, read off by widening to 32 bits, shifting, and truncating back. -/
theorem toNat_high (b : BitVec 8) : ((IntOp.shrsi .vector (b.setWidth 32) 4#32).setWidth 8).toNat = b.toNat / 16 := by
  revert b; decide +kernel

/-- The high half of a byte, read off by widening to 32 bits and shifting. -/
theorem toInt_high (b : BitVec 8) : (IntOp.shrsi .vector (b.setWidth 32) 4#32).toInt = ((b.toNat / 16 : ℕ) : ℤ) := by
  revert b; decide +kernel

/-- A byte widened to 32 bits is the same number. -/
theorem toInt_byte (b : BitVec 8) : (b.setWidth 32).toInt = ((b.toNat : ℕ) : ℤ) := by
  revert b; decide +kernel

variable {w : ℕ} (qs : Vec Ideal ⟨2, ![3584, w]⟩ .i8) (d dmin : Vec Ideal ⟨2, ![28, w]⟩ .f16)
  (sc mn : Vec Ideal ⟨2, ![224, w]⟩ .i8)

/-- The weight at a row whose byte, superblock and sub-block are at rows `r`, `s` and `p` of their arrays. -/
theorem weight_at (K : Fin 7168) (c : Fin w) (r : Fin 3584) (s : Fin 28) (p : Fin 224)
    (hr : r.val = 32 * (K.val / 64) + K.val % 32) (hs : s.val = K.val / 256) (hp : p.val = K.val / 32) :
    weight qs d dmin sc mn K c = value (code (qs (ix2 r c)) K.val)
      (times (d (ix2 s c)) (real (BitVec.toNat (sc (ix2 p c)))))
      (times (dmin (ix2 s c)) (real (BitVec.toNat (mn (ix2 p c))))) := by
  obtain ⟨r, hr'⟩ := r
  obtain ⟨s, hs'⟩ := s
  obtain ⟨p, hp'⟩ := p
  subst hr hs hp
  rfl

end Cert.Layer

end
-- ==== Proof.Tile.lean ====
/- What one grid point's block holds over the extended reals: at row `r` and column `c`, the sum over all 7168 input
   columns of `x` times the dequantized weight. -/
module

public import proofs.«01_k».proof.Proof.Block
public import proofs.«01_k».proof.Proof.Weight

@[expose] public section

set_option maxRecDepth 16384

noncomputable section

namespace Cert.KernelIdeal.Block

open Cert.KernelIdeal Cert.KernelIdeal.Gen Cert.Layer Idealize.ShloMosaic Idealize.ShloMosaic.TcCoe Idealize.SL.Sem

/-- A scale or an offset: the half-precision factor of the column times the sub-block's integer. -/
theorem factors_apply (n : Vec Ideal S8x512 .i8) (d : Vec Ideal S1x512 .f16) (a : Fin 8) (c : Fin 512) :
    factors n d (ix2 a c) = times (d (ix2 0 c)) (real (BitVec.toNat (n (ix2 a c)))) := by
  pointwise [factors]
  show (d (ix2 0 c) : EReal) * (((BitVec.toInt (BitVec.setWidth 32 (n (ix2 a c))) : ℤ) : ℝ) : EReal) = _
  rw [toInt_byte, Int.cast_natCast]; rfl

/-- The low halves, where the weight's row falls in the first half of its group. -/
theorem low_apply (q : Vec Ideal S32x512 .i8) (a : Fin 32) (c : Fin 512) (K : ℕ) (h : K % 64 < 32) :
    low q (ix2 a c) = code (q (ix2 a c)) K := by
  pointwise [low]
  show (((BitVec.toNat (IntOp.andi (q (ix2 a c)) 15#8) : ℕ) : ℝ) : EReal) = _
  rw [toNat_low, code, if_pos h]

/-- The high halves, where the weight's row falls in the second half of its group. -/
theorem high_apply (q : Vec Ideal S32x512 .i8) (a : Fin 32) (c : Fin 512) (K : ℕ) (h : ¬K % 64 < 32) :
    high q (ix2 a c) = code (q (ix2 a c)) K := by
  pointwise [high]
  show (((BitVec.toNat (BitVec.setWidth 8 (IntOp.shrsi .vector (BitVec.setWidth 32 (q (ix2 a c))) 4#32)) : ℕ) : ℝ) : EReal) = _
  rw [toNat_high, code, if_neg h]

variable (x0 : Vec Ideal S256x7168 .bf16) (x1 : Vec Ideal S3584x512 .i8) (x2 x3 : Vec Ideal S28x512 .f16) (x4 x5 : Vec Ideal S224x512 .i8)

/-- Rows loaded from row `n` on, at an index. -/
theorem rows_apply {e : EltTy} {h w : ℕ} (b : ℕ) (X : Vec Ideal ⟨2, ![h, w]⟩ e) (n : ℕ) (hn : n + b ≤ h) (a : Fin b)
    (c : Fin w) : rows b X n hn (ix2 a c) = X (ix2 ⟨n + a.val, by omega⟩ c) := by
  refine congrArg X (funext fun i => Fin.ext ?_)
  revert i
  exact Fin.forall_fin_two.mpr ⟨by simp, by simp⟩

/-- One sub-block's rows: scaled by row `n` of the scales, shifted by row `n` of the offsets. -/
theorem affine_apply (q : FVec Ideal S32x512 .bf16) (s o : FVec Ideal S8x512 .bf16) (n : ℕ) (hn8 : n < 8)
    (hn : S8x512.Slices ![n, 0] S1x512) (a : Fin 32) (c : Fin 512) :
    affine q (extractStridedSlice S1x512 ![n, 0] s hn) (extractStridedSlice S1x512 ![n, 0] o hn) (ix2 a c)
      = value (q (ix2 a c)) (s (ix2 ⟨n, hn8⟩ c)) (o (ix2 ⟨n, hn8⟩ c)) := by
  pointwise [affine]
  rfl

/-- A sub-block read off the low halves of rows `b, …` of the bytes is the weight's rows there. -/
theorem piece_low (K : Fin 7168) (k : ℕ) (hk : k < 28) (b : ℕ) (hb : b + 32 ≤ 3584) (n : ℕ) (hn8 : n < 8)
    (hn : S8x512.Slices ![n, 0] S1x512) (a : Fin 32) (c : Fin 512) (hK : K.val % 64 < 32)
    (hr : b + a.val = 32 * (K.val / 64) + K.val % 32) (hs : k = K.val / 256) (hp : 8 * k + n = K.val / 32) :
    affine (low (rows 32 x1 b hb))
      (extractStridedSlice S1x512 ![n, 0] (factors (rows 8 x4 (8 * k) (by omega)) (rows 1 x2 k (by omega))) hn)
      (extractStridedSlice S1x512 ![n, 0] (factors (rows 8 x5 (8 * k) (by omega)) (rows 1 x3 k (by omega))) hn)
      (ix2 a c) = weight x1 x2 x3 x4 x5 K c := by
  rw [affine_apply _ _ _ n hn8, low_apply _ _ _ K.val hK, factors_apply, factors_apply, rows_apply, rows_apply, rows_apply, rows_apply,
    rows_apply]
  exact (weight_at x1 x2 x3 x4 x5 K c _ _ _ hr hs hp).symm

/-- A sub-block read off the high halves of rows `b, …` of the bytes is the weight's rows there. -/
theorem piece_high (K : Fin 7168) (k : ℕ) (hk : k < 28) (b : ℕ) (hb : b + 32 ≤ 3584) (n : ℕ) (hn8 : n < 8)
    (hn : S8x512.Slices ![n, 0] S1x512) (a : Fin 32) (c : Fin 512) (hK : ¬K.val % 64 < 32)
    (hr : b + a.val = 32 * (K.val / 64) + K.val % 32) (hs : k = K.val / 256) (hp : 8 * k + n = K.val / 32) :
    affine (high (rows 32 x1 b hb))
      (extractStridedSlice S1x512 ![n, 0] (factors (rows 8 x4 (8 * k) (by omega)) (rows 1 x2 k (by omega))) hn)
      (extractStridedSlice S1x512 ![n, 0] (factors (rows 8 x5 (8 * k) (by omega)) (rows 1 x3 k (by omega))) hn)
      (ix2 a c) = weight x1 x2 x3 x4 x5 K c := by
  rw [affine_apply _ _ _ n hn8, high_apply _ _ _ K.val hK, factors_apply, factors_apply, rows_apply, rows_apply, rows_apply, rows_apply,
    rows_apply]
  exact (weight_at x1 x2 x3 x4 x5 K c _ _ _ hr hs hp).symm

/-- The tile of superblock `k` is rows `256 k, …, 256 k + 255` of the weight. -/
theorem tile_apply (k : ℕ) (hk : k < 28) (a : Fin 256) (c : Fin 512) :
    tile (factors (rows 8 x4 (8 * k) (by omega)) (rows 1 x2 k (by omega)))
        (factors (rows 8 x5 (8 * k) (by omega)) (rows 1 x3 k (by omega)))
        (rows 32 x1 (128 * k) (by omega)) (rows 32 x1 (128 * k + 32) (by omega)) (rows 32 x1 (128 * k + 64) (by omega))
        (rows 32 x1 (128 * k + 96) (by omega)) (ix2 a c)
      = weight x1 x2 x3 x4 x5 ⟨256 * k + a.val, by omega⟩ c := by
  pointwise [tile]
  by_cases h0 : a.val < 32
  · rw [dif_pos h0]
    exact piece_low x1 x2 x3 x4 x5 ⟨256 * k + a.val, by omega⟩ k hk (128 * k) (by omega) 0 (by decide)
        slices_S8x512_o0_0_S1x512 ⟨a.val, by omega⟩ c (by dsimp only; omega) (by dsimp only; omega) (by dsimp only; omega) (by dsimp only; omega)
  rw [dif_neg h0]
  by_cases h1 : a.val - 32 < 32
  · rw [dif_pos h1]
    exact piece_high x1 x2 x3 x4 x5 ⟨256 * k + a.val, by omega⟩ k hk (128 * k) (by omega) 1 (by decide)
        slices_S8x512_o1_0_S1x512 ⟨a.val - 32, by omega⟩ c (by dsimp only; omega) (by dsimp only; omega) (by dsimp only; omega) (by dsimp only; omega)
  rw [dif_neg h1]
  by_cases h2 : a.val - 32 - 32 < 32
  · rw [dif_pos h2]
    exact piece_low x1 x2 x3 x4 x5 ⟨256 * k + a.val, by omega⟩ k hk (128 * k + 32) (by omega) 2 (by decide)
        slices_S8x512_o2_0_S1x512 ⟨a.val - 32 - 32, by omega⟩ c (by dsimp only; omega) (by dsimp only; omega) (by dsimp only; omega) (by dsimp only; omega)
  rw [dif_neg h2]
  by_cases h3 : a.val - 32 - 32 - 32 < 32
  · rw [dif_pos h3]
    exact piece_high x1 x2 x3 x4 x5 ⟨256 * k + a.val, by omega⟩ k hk (128 * k + 32) (by omega) 3 (by decide)
        slices_S8x512_o3_0_S1x512 ⟨a.val - 32 - 32 - 32, by omega⟩ c (by dsimp only; omega) (by dsimp only; omega) (by dsimp only; omega) (by dsimp only; omega)
  rw [dif_neg h3]
  by_cases h4 : a.val - 32 - 32 - 32 - 32 < 32
  · rw [dif_pos h4]
    exact piece_low x1 x2 x3 x4 x5 ⟨256 * k + a.val, by omega⟩ k hk (128 * k + 64) (by omega) 4 (by decide)
        slices_S8x512_o4_0_S1x512 ⟨a.val - 32 - 32 - 32 - 32, by omega⟩ c (by dsimp only; omega) (by dsimp only; omega) (by dsimp only; omega) (by dsimp only; omega)
  rw [dif_neg h4]
  by_cases h5 : a.val - 32 - 32 - 32 - 32 - 32 < 32
  · rw [dif_pos h5]
    exact piece_high x1 x2 x3 x4 x5 ⟨256 * k + a.val, by omega⟩ k hk (128 * k + 64) (by omega) 5 (by decide)
        slices_S8x512_o5_0_S1x512 ⟨a.val - 32 - 32 - 32 - 32 - 32, by omega⟩ c (by dsimp only; omega) (by dsimp only; omega) (by dsimp only; omega) (by dsimp only; omega)
  rw [dif_neg h5]
  by_cases h6 : a.val - 32 - 32 - 32 - 32 - 32 - 32 < 32
  · rw [dif_pos h6]
    exact piece_low x1 x2 x3 x4 x5 ⟨256 * k + a.val, by omega⟩ k hk (128 * k + 96) (by omega) 6 (by decide)
        slices_S8x512_o6_0_S1x512 ⟨a.val - 32 - 32 - 32 - 32 - 32 - 32, by omega⟩ c (by dsimp only; omega) (by dsimp only; omega) (by dsimp only; omega) (by dsimp only; omega)
  rw [dif_neg h6]
  exact piece_high x1 x2 x3 x4 x5 ⟨256 * k + a.val, by omega⟩ k hk (128 * k + 96) (by omega) 7 (by decide)
      slices_S8x512_o7_0_S1x512 ⟨a.val - 32 - 32 - 32 - 32 - 32 - 32 - 32, by omega⟩ c (by dsimp only; omega) (by dsimp only; omega) (by dsimp only; omega) (by dsimp only; omega)

/-- Superblock `k`'s product at an index. -/
theorem part_apply (k : ℕ) (hk : k < 28) (r : Fin 256) (c : Fin 512) :
    part x0 x1 x2 x3 x4 x5 k hk (ix2 r c)
      = ∑ l : Fin 256, times (x0 (ix2 r ⟨256 * k + l.val, by omega⟩)) (weight x1 x2 x3 x4 x5 ⟨256 * k + l.val, by omega⟩ c) := by
  pointwise [part, superblock]
  refine Finset.sum_congr rfl fun l _ => ?_
  rw [tile_apply x1 x2 x3 x4 x5 k hk]
  pointwise [cols]
  rfl

/-- The accumulator after superblocks `0, …, k`: a double sum. -/
theorem acc_apply (k : ℕ) (hk : k < 28) (r : Fin 256) (c : Fin 512) :
    acc x0 x1 x2 x3 x4 x5 k hk (ix2 r c)
      = ∑ s : Fin (k + 1), ∑ l : Fin 256, times (x0 (ix2 r ⟨256 * s.val + l.val, by omega⟩))
          (weight x1 x2 x3 x4 x5 ⟨256 * s.val + l.val, by omega⟩ c) := by
  induction k with
  | zero =>
    rw [Fin.sum_univ_one]
    show shapeCast S256x512 (part x0 x1 x2 x3 x4 x5 0 hk) shapeCasts_S256x512_S256x512 (ix2 r c) = _
    rw [shapeCast_self, part_apply]
    rfl
  | succ k ih =>
    rw [Fin.sum_univ_castSucc]
    show shapeCast S256x512 (addf (acc x0 x1 x2 x3 x4 x5 k (Nat.lt_of_succ_lt hk)) (part x0 x1 x2 x3 x4 x5 (k + 1) hk))
      shapeCasts_S256x512_S256x512 (ix2 r c) = _
    rw [shapeCast_self]
    refine congrArg₂ (fun a b : EReal => a + b) (ih (Nat.lt_of_succ_lt hk)) (part_apply x0 x1 x2 x3 x4 x5 (k + 1) hk r c)

/-- The accumulator after all superblocks: one sum over the 7168 columns of `x`. -/
theorem acc_last (r : Fin 256) (c : Fin 512) :
    acc x0 x1 x2 x3 x4 x5 27 (by decide) (ix2 r c)
      = ∑ K : Fin 7168, times (x0 (ix2 r K)) (weight x1 x2 x3 x4 x5 K c) := by
  rw [acc_apply, Fin.sum_univ_tiles 28 256 rfl]
  refine Finset.sum_congr rfl fun s _ => Finset.sum_congr rfl fun l _ => ?_
  have e : 256 * s.val + l.val = s.val * 256 + l.val := by omega
  simp only [e]

end Cert.KernelIdeal.Block

end
-- ==== Proof.KernelArray.lean ====
/- The result array of the kernel over the extended reals: every column block is one grid point's result block, and
   at each index it is the sum over the 7168 rows of the dequantized weight. -/
module

public import proofs.«01_k».proof.Proof.Gen.KernelIdeal.Value
public import proofs.«01_k».proof.Proof.Opened
public import proofs.«01_k».proof.Proof.Tile

@[expose] public section

set_option maxRecDepth 16384

noncomputable section

namespace Cert.KernelIdeal.Block

open Cert.KernelIdeal Cert.KernelIdeal.Gen Cert.Layer Idealize.ShloMosaic Idealize.ShloMosaic.TcCoe Idealize.SL.Sem
open Idealize.ShloMosaic.Pipeline (Dat)

variable (m : (ℓ : Loc nD τ sig) → Buf (Elt Ideal) ℓ)

/-- The blocks each grid point reads and writes: all of `x`, and column block `t` of every other array. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val]
    ∧ win0_6.index t = ![0, t.val] ∧ t.val < 7 :=
  (by decide +kernel : ∀ t : Fin grid0.N, _)

/-- The blocks of grid point `t` give, at row `a` and column `b`, the layer at column `512 t + b` of the arrays. -/
theorem block_layer (c : Dev nD) (t : Fin cfg0.N) (a : Fin 256) (b : Fin 512) (j : Fin 3584) (hj : j.val = t.val * 512 + b.val) :
    acc (iblk m c 0 t) (iblk m c 1 t) (iblk m c 2 t) (iblk m c 3 t) (iblk m c 4 t) (iblk m c 5 t) 27 (by decide) (ix2 a b)
      = layer (V m c main_v0) (m ((c : Thread nD τ).loc main_arg1)) (m ((c : Thread nD τ).loc main_arg2))
          (m ((c : Thread nD τ).loc main_arg3)) (m ((c : Thread nD τ).loc main_arg4)) (m ((c : Thread nD τ).loc main_arg5)) a j := by
  rw [acc_last]
  refine Finset.sum_congr rfl fun K _ => ?_
  unfold weight
  blk_point [iblk, V, idx t]

/-- The kernel's result array. -/
theorem final (c : Dev nD) : (dats m 0 c).arrAt 6 cfg0.N = fun j : S256x3584.Idx =>
    layer (V m c main_v0) (m ((c : Thread nD τ).loc main_arg1)) (m ((c : Thread nD τ).loc main_arg2))
      (m ((c : Thread nD τ).loc main_arg3)) (m ((c : Thread nD τ).loc main_arg4)) (m ((c : Thread nD τ).loc main_arg5))
      (j 0) (j 1) := by
  refine (dats m 0 c).arrAt_eq_of_covers 6 _ (by decide +kernel) fun t _ y => ?_
  blk_simp
  rw [after0_6, outsAt0_eq]
  idx_vars y
  have e0 : (((View.whole main_v1).slice (win0_6.rect t)).emb (ix2 y0 y1) 0).val = y0.val := by
    blk_simp [idx t]
  have e1 : (((View.whole main_v1).slice (win0_6.rect t)).emb (ix2 y0 y1) 1).val = t.val * 512 + y1.val := by
    blk_simp [idx t]
  exact (block_layer m c t y0 y1 _ e1).trans (congrArg (fun r : Fin 256 => layer _ _ _ _ _ _ r _) (Fin.ext e0.symm))

end Cert.KernelIdeal.Block

end
-- ==== Proof.ReferenceArray.lean ====
/- The result array of the reference over the extended reals, at each index the sum over the 7168 rows of the
   dequantized weight. -/
module

public import proofs.«01_k».proof.Proof.Gen.ReferenceIdeal.Value
public import proofs.«01_k».proof.Proof.Weight

@[expose] public section

set_option maxRecDepth 16384

noncomputable section

namespace Cert.ReferenceIdeal.Whole

open Cert.ReferenceIdeal Cert.ReferenceIdeal.Gen Cert.Layer Idealize.ShloMosaic Idealize.ShloMosaic.TcCoe Idealize.SL.Sem
open Idealize.ShloMosaic.Pipeline (Dat)

variable (m : (ℓ : Loc nD τ sig) → Buf (Elt Ideal) ℓ)

/-- The one grid point reads and writes whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The code the reference reads: the low half of the byte in the first 32 rows of a group of 64, the high half in the
    others. -/
theorem code_eq (b : BitVec 8) (K : ℕ) :
    (FloatOps.sitofp FTy.bf16 (if h : K / 32 % 2 < 1 then IntOp.andi (BitVec.setWidth 32 b) 15#32
      else IntOp.shrsi ArithUnit.vector (BitVec.setWidth 32 b) 4#32) : Ideal .bf16) = code b K := by
  unfold code
  by_cases h : K % 64 < 32
  · rw [if_pos h, dif_pos (by omega)]
    show (((IntOp.andi (BitVec.setWidth 32 b) 15#32).toInt : ℝ) : EReal) = _
    rw [toInt_low, Int.cast_natCast]
  · rw [if_neg h, dif_neg (by omega)]
    show (((IntOp.shrsi ArithUnit.vector (BitVec.setWidth 32 b) 4#32).toInt : ℝ) : EReal) = _
    rw [toInt_high, Int.cast_natCast]

/-- The body's result at an index. -/
theorem body_apply (x : Vec Ideal S256x7168 .bf16) (qs : Vec Ideal S3584x3584 .i8) (d dmin : Vec Ideal S28x3584 .f16)
    (sc mn : Vec Ideal S224x3584 .i8) (r : Fin 256) (c : Fin 3584) :
    k0_pay1 qs d dmin sc mn x (ix2 r c) = layer x qs d dmin sc mn r c := by
  pointwise [k0_pay1]
  refine Finset.sum_congr rfl fun K _ => ?_
  rw [weight_at qs d dmin sc mn K c ⟨K.val / 64 * 32 + K.val % 32, by omega⟩ ⟨K.val / 64 / 4, by omega⟩
    ⟨K.val / 64 / 4 * 8 + (K.val / 64 % 4 * 2 + K.val / 32 % 2), by omega⟩ (by dsimp only; omega) (by dsimp only; omega)
    (by dsimp only; omega)]
  refine congrArg (fun q : EReal => times (x (ix2 r K)) (value q
    (times (d (ix2 ⟨K.val / 64 / 4, by omega⟩ c)) (real (BitVec.toNat (sc (ix2 ⟨K.val / 64 / 4 * 8 + (K.val / 64 % 4 * 2 + K.val / 32 % 2), by omega⟩ c)))))
    (times (dmin (ix2 ⟨K.val / 64 / 4, by omega⟩ c)) (real (BitVec.toNat (mn (ix2 ⟨K.val / 64 / 4 * 8 + (K.val / 64 % 4 * 2 + K.val / 32 % 2), by omega⟩ c)))))))
    (code_eq (qs (ix2 ⟨K.val / 64 * 32 + K.val % 32, by omega⟩ c)) K.val)

/-- The reference's result array. -/
theorem final (c : Dev nD) : (dats m 0 c).arrAt 6 cfg0.N = fun j : S256x3584.Idx =>
    layer (V m c main_v0) (m ((c : Thread nD τ).loc main_arg1)) (m ((c : Thread nD τ).loc main_arg2))
      (m ((c : Thread nD τ).loc main_arg3)) (m ((c : Thread nD τ).loc main_arg4)) (m ((c : Thread nD τ).loc main_arg5))
      (j 0) (j 1) := by
  refine ((dats m 0 c).arrAt_eq_of_after_last 6 t0_0 (by decide +kernel) (k0_pay1 (m ((c : Thread nD τ).loc main_arg1))
    (m ((c : Thread nD τ).loc main_arg2)) (m ((c : Thread nD τ).loc main_arg3)) (m ((c : Thread nD τ).loc main_arg4))
    (m ((c : Thread nD τ).loc main_arg5)) (V m c main_v0)) fun j => ?_).trans (funext fun j => ?_)
  · blk_simp
    rw [after0_6]
    frame_out
    blk_point [iblk, V, idx t0_0]
  · idx_vars j
    exact body_apply _ _ _ _ _ _ _ _

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelArray
public import proofs.«01_k».proof.Proof.ReferenceArray
public import Idealize.ShloMosaic.Adequacy
public import Idealize.ShloMosaic.Init

@[expose] public section

noncomputable section

namespace Cert.Proof

open Idealize.ShloMosaic Idealize.SL.Sem Cert.Kernel

/-- Over the extended reals the kernel and the reference, run on the same arguments, return the same array: the rows of
    `x` against the columns of the dequantized weight. -/
theorem same_array : Cert.algebraic_KernelIdeal_ReferenceIdeal := by
  intro m g m' g' _ hargs
  have hx : ∀ c, Cert.ReferenceIdeal.Gen.V m' c Cert.ReferenceIdeal.main_v0 = Cert.KernelIdeal.Gen.V m c Cert.KernelIdeal.main_v0 := by
    intro c
    entry_read
    rw [(hargs c).1]
    rfl
  refine ⟨fun c => (Cert.KernelIdeal.Gen.dats m 0 c).arrAt 6 Cert.KernelIdeal.cfg0.N,
    Cert.KernelIdeal.Value.run_blocks m g, ?_⟩
  refine (θ_run _ _ _).mono (fun r h c => ⟨(h c).1.trans ?_, (h c).2⟩) (Cert.ReferenceIdeal.Value.run_blocks m' g')
  obtain ⟨-, h1, h2, h3, h4, h5⟩ := hargs c
  refine (Cert.ReferenceIdeal.Whole.final m' c).trans (Eq.trans (funext fun j => ?_) (Cert.KernelIdeal.Block.final m c).symm)
  exact congrFun (congrFun (congr (congr (congr (congr (congr (congrArg Cert.Layer.layer (hx c)) h1) h2) h3) h4) h5) (j 0)) (j 1)

/-- The three frames, the idealization without rewrites, and the equality of the two results over the extended reals. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial, same_array⟩

end Cert.Proof

end
